-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x56x56 : Shape := ⟨4, ![4, 96, 56, 56]⟩
abbrev S96x96x3x3 : Shape := ⟨4, ![96, 96, 3, 3]⟩
abbrev S96 : Shape := ⟨1, ![96]⟩
abbrev S4x56x56x96 : Shape := ⟨4, ![4, 56, 56, 96]⟩
abbrev S_ : Shape := ⟨0, ![]⟩
abbrev S4x58x58x96 : Shape := ⟨4, ![4, 58, 58, 96]⟩
abbrev S4x3364x96 : Shape := ⟨3, ![4, 3364, 96]⟩
abbrev S4x3488x96 : Shape := ⟨3, ![4, 3488, 96]⟩
abbrev S96x864 : Shape := ⟨2, ![96, 864]⟩
abbrev S864x96 : Shape := ⟨2, ![864, 96]⟩
abbrev S1x96 : Shape := ⟨2, ![1, 96]⟩
abbrev S1x3488x96 : Shape := ⟨3, ![1, 3488, 96]⟩
abbrev S1x3364x96 : Shape := ⟨3, ![1, 3364, 96]⟩
abbrev S1x864x96 : Shape := ⟨3, ![1, 864, 96]⟩
abbrev S1 : Shape := ⟨1, ![1]⟩
abbrev S1x1x1 : Shape := ⟨3, ![1, 1, 1]⟩
abbrev S864x864 : Shape := ⟨2, ![864, 864]⟩
abbrev S3488x96 : Shape := ⟨2, ![3488, 96]⟩
abbrev S3364x96 : Shape := ⟨2, ![3364, 96]⟩
abbrev S96x96 : Shape := ⟨2, ![96, 96]⟩

abbrev nBuf : Space → Nat
  | .hbm => 18
  | .vmem => 7
  | .smem => 0
  | _ => 0

abbrev bufTy : (tb : Table) → Fin (tcTables nBuf tb) → BufTy
  | .hbm, ⟨0, _⟩ => ⟨S4x96x56x56, .f32⟩
  | .hbm, ⟨1, _⟩ => ⟨S96x96x3x3, .f32⟩
  | .hbm, ⟨2, _⟩ => ⟨S96, .f32⟩
  | .hbm, ⟨3, _⟩ => ⟨S4x56x56x96, .f32⟩
  | .hbm, ⟨4, _⟩ => ⟨S_, .i32⟩
  | .hbm, ⟨5, _⟩ => ⟨S_, .f32⟩
  | .hbm, ⟨6, _⟩ => ⟨S4x58x58x96, .f32⟩
  | .hbm, ⟨7, _⟩ => ⟨S4x3364x96, .f32⟩
  | .hbm, ⟨8, _⟩ => ⟨S_, .i32⟩
  | .hbm, ⟨9, _⟩ => ⟨S_, .f32⟩
  | .hbm, ⟨10, _⟩ => ⟨S4x3488x96, .f32⟩
  | .hbm, ⟨11, _⟩ => ⟨S96x864, .f32⟩
  | .hbm, ⟨12, _⟩ => ⟨S864x96, .f32⟩
  | .hbm, ⟨13, _⟩ => ⟨S1x96, .f32⟩
  | .hbm, ⟨14, _⟩ => ⟨S4x3364x96, .f32⟩
  | .hbm, ⟨15, _⟩ => ⟨S4x58x58x96, .f32⟩
  | .hbm, ⟨16, _⟩ => ⟨S4x56x56x96, .f32⟩
  | .hbm, ⟨17, _⟩ => ⟨S4x96x56x56, .f32⟩
  | .local _ .vmem, ⟨0, _⟩ => ⟨S1x3488x96, .f32⟩
  | .local _ .vmem, ⟨1, _⟩ => ⟨S1x3488x96, .f32⟩
  | .local _ .vmem, ⟨2, _⟩ => ⟨S864x96, .f32⟩
  | .local _ .vmem, ⟨3, _⟩ => ⟨S1x96, .f32⟩
  | .local _ .vmem, ⟨4, _⟩ => ⟨S1x3364x96, .f32⟩
  | .local _ .vmem, ⟨5, _⟩ => ⟨S1x3364x96, .f32⟩
  | .local _ .vmem, ⟨6, _⟩ => ⟨S864x96, .f32⟩
  | _, _ => ⟨S4x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_call1_v0 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3488x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S864x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3364x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x96x56x56 : Shape := ⟨4, ![4, 96, 56, 56]⟩
abbrev S96x96x3x3 : Shape := ⟨4, ![96, 96, 3, 3]⟩
abbrev S96 : Shape := ⟨1, ![96]⟩
abbrev S_ : Shape := ⟨0, ![]⟩
abbrev S96x864 : Shape := ⟨2, ![96, 864]⟩
abbrev S96x216x4 : Shape := ⟨3, ![96, 216, 4]⟩
abbrev S96x216 : Shape := ⟨2, ![96, 216]⟩
abbrev S96x216x1 : Shape := ⟨3, ![96, 216, 1]⟩
abbrev S4x96x58x58 : Shape := ⟨4, ![4, 96, 58, 58]⟩
abbrev S96x96x1x1 : Shape := ⟨4, ![96, 96, 1, 1]⟩
abbrev S96x96 : Shape := ⟨2, ![96, 96]⟩
abbrev S96x4x56x56 : Shape := ⟨4, ![96, 4, 56, 56]⟩
abbrev S1x96x1x1 : Shape := ⟨4, ![1, 96, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S4x96x56x56, .f32⟩
  | .hbm, ⟨1, _⟩ => ⟨S96x96x3x3, .f32⟩
  | .hbm, ⟨2, _⟩ => ⟨S96, .f32⟩
  | .hbm, ⟨3, _⟩ => ⟨S96x96x3x3, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S96x96x3x3, .f32⟩
  | .hbm, ⟨9, _⟩ => ⟨S96x96x3x3, .f32⟩
  | .hbm, ⟨10, _⟩ => ⟨S96x864, .f32⟩
  | .hbm, ⟨11, _⟩ => ⟨S96x216x4, .f32⟩
  | .hbm, ⟨12, _⟩ => ⟨S_, .f32⟩
  | .hbm, ⟨13, _⟩ => ⟨S96x216, .f32⟩
  | .hbm, ⟨14, _⟩ => ⟨S96x216x1, .f32⟩
  | .hbm, ⟨15, _⟩ => ⟨S_, .f32⟩
  | .hbm, ⟨16, _⟩ => ⟨S96x216x1, .f32⟩
  | .hbm, ⟨17, _⟩ => ⟨S96x216x1, .f32⟩
  | .hbm, ⟨18, _⟩ => ⟨S96x216x4, .f32⟩
  | .hbm, ⟨19, _⟩ => ⟨S96x864, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S96x864, .f32⟩
  | .hbm, ⟨24, _⟩ => ⟨S96x864, .f32⟩
  | .hbm, ⟨25, _⟩ => ⟨S_, .f32⟩
  | .hbm, ⟨26, _⟩ => ⟨S96x864, .f32⟩
  | .hbm, ⟨27, _⟩ => ⟨S96x864, .f32⟩
  | .hbm, ⟨28, _⟩ => ⟨S96x864, .f32⟩
  | .hbm, ⟨29, _⟩ => ⟨S96x864, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S96x864, .f32⟩
  | .hbm, ⟨34, _⟩ => ⟨S96x864, .f32⟩
  | .hbm, ⟨35, _⟩ => ⟨S_, .f32⟩
  | .hbm, ⟨36, _⟩ => ⟨S96x864, .f32⟩
  | .hbm, ⟨37, _⟩ => ⟨S96x864, .f32⟩
  | .hbm, ⟨38, _⟩ => ⟨S96x864, .f32⟩
  | .hbm, ⟨39, _⟩ => ⟨S96x864, .f32⟩
  | .hbm, ⟨40, _⟩ => ⟨S96x864, .f32⟩
  | .hbm, ⟨41, _⟩ => ⟨S96x864, .f32⟩
  | .hbm, ⟨42, _⟩ => ⟨S96x96x3x3, .f32⟩
  | .hbm, ⟨43, _⟩ => ⟨S_, .i32⟩
  | .hbm, ⟨44, _⟩ => ⟨S_, .f32⟩
  | .hbm, ⟨45, _⟩ => ⟨S4x96x58x58, .f32⟩
  | .hbm, ⟨46, _⟩ => ⟨S_, .f32⟩
  | .hbm, ⟨47, _⟩ => ⟨S4x96x56x56, .f32⟩
  | .hbm, ⟨48, _⟩ => ⟨S4x96x56x56, .f32⟩
  | .hbm, ⟨49, _⟩ => ⟨S96x96x1x1, .f32⟩
  | .hbm, ⟨50, _⟩ => ⟨S96x96, .f32⟩
  | .hbm, ⟨51, _⟩ => ⟨S96x4x56x56, .f32⟩
  | .hbm, ⟨52, _⟩ => ⟨S4x96x56x56, .f32⟩
  | .hbm, ⟨53, _⟩ => ⟨S4x96x56x56, .f32⟩
  | .hbm, ⟨54, _⟩ => ⟨S4x96x56x56, .f32⟩
  | .hbm, ⟨55, _⟩ => ⟨S96x96x1x1, .f32⟩
  | .hbm, ⟨56, _⟩ => ⟨S96x96, .f32⟩
  | .hbm, ⟨57, _⟩ => ⟨S96x4x56x56, .f32⟩
  | .hbm, ⟨58, _⟩ => ⟨S4x96x56x56, .f32⟩
  | .hbm, ⟨59, _⟩ => ⟨S4x96x56x56, .f32⟩
  | .hbm, ⟨60, _⟩ => ⟨S4x96x56x56, .f32⟩
  | .hbm, ⟨61, _⟩ => ⟨S96x96x1x1, .f32⟩
  | .hbm, ⟨62, _⟩ => ⟨S96x96, .f32⟩
  | .hbm, ⟨63, _⟩ => ⟨S96x4x56x56, .f32⟩
  | .hbm, ⟨64, _⟩ => ⟨S4x96x56x56, .f32⟩
  | .hbm, ⟨65, _⟩ => ⟨S4x96x56x56, .f32⟩
  | .hbm, ⟨66, _⟩ => ⟨S4x96x56x56, .f32⟩
  | .hbm, ⟨67, _⟩ => ⟨S96x96x1x1, .f32⟩
  | .hbm, ⟨68, _⟩ => ⟨S96x96, .f32⟩
  | .hbm, ⟨69, _⟩ => ⟨S96x4x56x56, .f32⟩
  | .hbm, ⟨70, _⟩ => ⟨S4x96x56x56, .f32⟩
  | .hbm, ⟨71, _⟩ => ⟨S4x96x56x56, .f32⟩
  | .hbm, ⟨72, _⟩ => ⟨S4x96x56x56, .f32⟩
  | .hbm, ⟨73, _⟩ => ⟨S96x96x1x1, .f32⟩
  | .hbm, ⟨74, _⟩ => ⟨S96x96, .f32⟩
  | .hbm, ⟨75, _⟩ => ⟨S96x4x56x56, .f32⟩
  | .hbm, ⟨76, _⟩ => ⟨S4x96x56x56, .f32⟩
  | .hbm, ⟨77, _⟩ => ⟨S4x96x56x56, .f32⟩
  | .hbm, ⟨78, _⟩ => ⟨S4x96x56x56, .f32⟩
  | .hbm, ⟨79, _⟩ => ⟨S96x96x1x1, .f32⟩
  | .hbm, ⟨80, _⟩ => ⟨S96x96, .f32⟩
  | .hbm, ⟨81, _⟩ => ⟨S96x4x56x56, .f32⟩
  | .hbm, ⟨82, _⟩ => ⟨S4x96x56x56, .f32⟩
  | .hbm, ⟨83, _⟩ => ⟨S4x96x56x56, .f32⟩
  | .hbm, ⟨84, _⟩ => ⟨S4x96x56x56, .f32⟩
  | .hbm, ⟨85, _⟩ => ⟨S96x96x1x1, .f32⟩
  | .hbm, ⟨86, _⟩ => ⟨S96x96, .f32⟩
  | .hbm, ⟨87, _⟩ => ⟨S96x4x56x56, .f32⟩
  | .hbm, ⟨88, _⟩ => ⟨S4x96x56x56, .f32⟩
  | .hbm, ⟨89, _⟩ => ⟨S4x96x56x56, .f32⟩
  | .hbm, ⟨90, _⟩ => ⟨S4x96x56x56, .f32⟩
  | .hbm, ⟨91, _⟩ => ⟨S96x96x1x1, .f32⟩
  | .hbm, ⟨92, _⟩ => ⟨S96x96, .f32⟩
  | .hbm, ⟨93, _⟩ => ⟨S96x4x56x56, .f32⟩
  | .hbm, ⟨94, _⟩ => ⟨S4x96x56x56, .f32⟩
  | .hbm, ⟨95, _⟩ => ⟨S4x96x56x56, .f32⟩
  | .hbm, ⟨96, _⟩ => ⟨S4x96x56x56, .f32⟩
  | .hbm, ⟨97, _⟩ => ⟨S96x96x1x1, .f32⟩
  | .hbm, ⟨98, _⟩ => ⟨S96x96, .f32⟩
  | .hbm, ⟨99, _⟩ => ⟨S96x4x56x56, .f32⟩
  | .hbm, ⟨100, _⟩ => ⟨S4x96x56x56, .f32⟩
  | .hbm, ⟨101, _⟩ => ⟨S4x96x56x56, .f32⟩
  | .hbm, ⟨102, _⟩ => ⟨S1x96x1x1, .f32⟩
  | .hbm, ⟨103, _⟩ => ⟨S4x96x56x56, .f32⟩
  | .hbm, ⟨104, _⟩ => ⟨S4x96x56x56, .f32⟩
  | _, _ => ⟨S4x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_cst_6 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_call4_v0 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Proof.Spec.lean ====
/- The quantisation of one weight as a function of extended reals, shared by the readings of the two programs, and the
   sums over extended reals that the readings need. -/
module

public import Idealize.ShloMosaic.Lib.Pipeline.ValueKit
public import Idealize.ShloMosaic.Lib.Pointwise

@[expose] public section

noncomputable section

namespace Cert.Spec

open Idealize.ShloMosaic

/-- A value clipped to between -1.5 and 1.5 and rounded to the nearest integer, ties to even. -/
def snap (v : EReal) : EReal :=
  Ideal.liftRound Ideal.roundHalfEven (min (Ideal.ofBits .f32 0x3FC00000#32) (max (Ideal.ofBits .f32 0xBFC00000#32) v))

/-- A weight `v` (in units of the step `s`) quantised around its group's mean `a`. -/
def requant (v a s : EReal) : EReal := (snap (v - snap a) + snap a) * s

/-- The word of a quarter is the number a quarter. -/
theorem quarter : Ideal.ofBits .f32 0x3E800000#32 = ((1 / 4 : ℝ) : EReal) := by
  simp [Ideal.ofBits, Ideal.ieee, -EReal.coe_mul]; norm_num

/-- The word of four is the number four. -/
theorem four : Ideal.ofBits .f32 0x40800000#32 = ((4 : ℝ) : EReal) := by
  simp [Ideal.ofBits, Ideal.ieee, -EReal.coe_mul]; norm_num

/-- A quarter of each of four extended reals, added up, is their sum divided by four. -/
theorem sum_quarter (u : Fin 4 → EReal) :
    ∑ l, Ideal.ofBits .f32 0x3E800000#32 * u l = Ideal.div (∑ l, u l) (Ideal.ofBits .f32 0x40800000#32) := by
  have hd : ∀ y z : EReal, ((1 / 4 : ℝ) : EReal) * (y + z) = ((1 / 4 : ℝ) : EReal) * y + ((1 / 4 : ℝ) : EReal) * z :=
    EReal.left_distrib_of_nonneg_of_ne_top (EReal.coe_nonneg.2 (by norm_num)) (EReal.coe_ne_top _)
  rw [four, Ideal.div_coe (by norm_num), quarter, mul_comm (∑ l, u l)]
  simp only [Fin.sum_univ_four, hd]

/-- Of the products along a row of the averaging matrix (a quarter at the positions of `f`'s group of four, zero
    elsewhere) what is left is the mean of the group. -/
theorem sum_group (u : Fin 864 → EReal) (f : Fin 864) :
    (∑ x : Fin 864, if f.val / 4 = x.val / 4 then Ideal.ofBits .f32 0x3E800000#32 * u x else 0)
      = Ideal.div (∑ l : Fin 4, u ⟨f.val / 4 * 4 + l.val, by omega⟩) (Ideal.ofBits .f32 0x40800000#32) := by
  rw [Fin.sum_univ_tiles 216 4 rfl, ← sum_quarter]
  rw [Finset.sum_eq_single (⟨f.val / 4, by omega⟩ : Fin 216)]
  · refine Finset.sum_congr rfl fun l _ => ?_
    rw [if_pos]
    show f.val / 4 = (f.val / 4 * 4 + l.val) / 4
    omega
  · intro j _ hj
    refine Finset.sum_eq_zero fun l _ => if_neg fun h => hj (Fin.ext ?_)
    have h' : f.val / 4 = (j.val * 4 + l.val) / 4 := h
    show j.val = f.val / 4
    omega
  · intro h; exact absurd (Finset.mem_univ _) h

/-- Of the entries along a row of a selecting matrix what is left is the selected entry. -/
theorem sum_pick {n : Nat} (u : Fin n → EReal) (k : Fin n) : (∑ x : Fin n, if x.val = k.val then u x else 0) = u k := by
  rw [Finset.sum_eq_single k]
  · rw [if_pos rfl]
  · intro x _ hx; exact if_neg fun h => hx (Fin.ext h)
  · intro h; exact absurd (Finset.mem_univ _) h

/-- Choosing by the equality of the words of two small numbers is choosing by the equality of the numbers. -/
theorem select_eq (a b : Nat) (ha : a < 2 ^ 32) (hb : b < 2 ^ 32) (u v : EReal) :
    Scalar.select (IntOp.cmpi .eq (BitVec.ofNat 32 a) (BitVec.ofNat 32 b)) u v = if a = b then u else v := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · subst e; rw [if_pos rfl]; simp [Scalar.select, IntOp.cmpi]
  · have hb' : (BitVec.ofNat 32 a == BitVec.ofNat 32 b) = false := by rw [beq_eq_false_iff_ne]; exact fun k => e (h.1 k)
    rw [if_neg e]; simp [Scalar.select, IntOp.cmpi, hb']

/-- The place, in an array of 96 output channels by 96 input channels by 3 kernel rows by 3 kernel columns, of row
    `f = channel * 9 + tap` and column `o` of the weights as a matrix. -/
def place (f : Fin 864) (o : Fin 96) : (⟨4, ![96, 96, 3, 3]⟩ : Shape).Idx :=
  ix4 o (⟨f.val / 9, by omega⟩ : Fin 96) (⟨f.val / 3 % 3, by omega⟩ : Fin 3) (⟨f.val % 3, by omega⟩ : Fin 3)

/-- Rows and columns of the matrix correspond one to one to the places of the array. -/
def placeEquiv : Fin 864 × Fin 96 ≃ (⟨4, ![96, 96, 3, 3]⟩ : Shape).Idx where
  toFun x := place x.1 x.2
  invFun i := (⟨(i 1).val * 9 + (i 2).val * 3 + (i 3).val, by
    have h1 : (i 1).val < 96 := (i 1).isLt
    have h2 : (i 2).val < 3 := (i 2).isLt
    have h3 : (i 3).val < 3 := (i 3).isLt
    omega⟩, i 0)
  left_inv x := by
    obtain ⟨f, o⟩ := x
    refine Prod.ext (Fin.ext ?_) rfl
    show f.val / 9 * 9 + f.val / 3 % 3 * 3 + f.val % 3 = f.val
    omega
  right_inv i := by
    idx_vars i
    show place ⟨i1.val * 9 + i2.val * 3 + i3.val, _⟩ i0 = ix4 i0 i1 i2 i3
    unfold place
    refine (ix4_inj ..).2 ⟨rfl, Fin.ext ?_, Fin.ext ?_, Fin.ext ?_⟩
    · show (i1.val * 9 + i2.val * 3 + i3.val) / 9 = i1.val
      omega
    · show (i1.val * 9 + i2.val * 3 + i3.val) / 3 % 3 = i2.val
      omega
    · show (i1.val * 9 + i2.val * 3 + i3.val) % 3 = i3.val
      omega

/-- The largest entry is the same over the matrix and over the array. -/
theorem fold_place (b : EReal) (u : (⟨4, ![96, 96, 3, 3]⟩ : Shape).Idx → EReal) :
    Finset.univ.fold max b (fun x : Fin 864 × Fin 96 => u (place x.1 x.2)) = Finset.univ.fold max b u := by
  rw [← Finset.map_univ_equiv placeEquiv, Finset.fold_map]
  rfl

end Cert.Spec

end
-- ==== Proof.Quant.lean ====
/- The weight quantisation the kernel's body computes at the first grid point, read element by element. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.KernelIdeal.Quant

open Idealize.ShloMosaic Idealize.ShloMosaic.TcCoe Idealize.SL.Sem
open Cert.KernelIdeal Cert.KernelIdeal.Gen

/-- The step: a third of the largest absolute weight. -/
theorem step_at (w : FVec Ideal S864x96 .f32) :
    k0_pay3 (F := Ideal) w = Ideal.div (Finset.univ.fold max (Ideal.ofBits .f32 0xFF800000#32)
      (fun x : Fin 864 × Fin 96 => FloatOps.absf (F := Ideal) (φ := .f32) (w (ix2 x.1 x.2)))) (Ideal.ofBits .f32 0x40400000#32) := by
  pointwise [k0_pay3, k0_pay2]

/-- The weights in units of the step. -/
theorem scaled_at (w : FVec Ideal S864x96 .f32) (f : Fin 864) (o : Fin 96) :
    k0_pay4 (F := Ideal) w (ix2 f o) = Ideal.div (w (ix2 f o)) (k0_pay3 (F := Ideal) w) := by
  pointwise [k0_pay4, k0_pay2]

/-- The kernel's division of a row number by four, rounding down, in words. -/
theorem word_div4 : ∀ f : Fin 864, Scalar.select
      (IntOp.andi
        (IntOp.cmpi CmpIPredicate.ne
          (IntOp.subi (BitVec.setWidth 32 (IntOp.cmpi CmpIPredicate.sgt (BitVec.ofNat 32 f.val) 0#32))
            (BitVec.setWidth 32 (IntOp.cmpi CmpIPredicate.slt (BitVec.ofNat 32 f.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 f.val) 4#32) 0#32))
      (IntOp.subi (IntOp.divsi ArithUnit.vector (BitVec.ofNat 32 f.val) 4#32) 1#32)
      (IntOp.divsi ArithUnit.vector (BitVec.ofNat 32 f.val) 4#32) =
    BitVec.ofNat 32 (f.val / 4) := by decide +kernel

/-- The group number along the rows of the averaging matrix. -/
theorem pay5_at (f g : Fin 864) : k0_pay5 (ix2 f g) = BitVec.ofNat 32 (f.val / 4) := by
  pointwise [k0_pay5]
  exact word_div4 f

/-- The quantised weights before they are put in the order of the taps. -/
theorem quant_at (s : EReal) (ws : FVec Ideal S864x96 .f32) (f : Fin 864) (o : Fin 96) :
    k0_pay8 (F := Ideal) s ws (iota .tc S864x864 32 [1] iota_S864x864_d1_w32) k0_pay5 4#32 k0_pay6 k0_pay7 0#32 (ix2 f o)
      = Spec.requant (ws (ix2 f o)) (Ideal.div (∑ l : Fin 4, ws (ix2 (⟨f.val / 4 * 4 + l.val, by omega⟩ : Fin 864) o)) (Ideal.ofBits .f32 0x40800000#32)) s := by
  rw [← Spec.sum_group (fun x => ws (ix2 x o)) f]
  have hs : ∀ (x : Fin 864) (u v : EReal), Scalar.select (IntOp.cmpi .eq (BitVec.ofNat 32 (f.val / 4)) (BitVec.ofNat 32 (x.val / 4))) u v
      = if f.val / 4 = x.val / 4 then u else v := fun x u v => Spec.select_eq _ _ (by omega) (by omega) u v
  pointwise [k0_pay8, k0_pay6, k0_pay7]
  simp only [pay5_at, word_div4, hs]
  rfl

/-- The kernel's row of the quantised weights for a row of the taps, in words. -/
theorem word_row : ∀ f : Fin 864,
          (IntOp.addi
            (IntOp.muli
              (Scalar.select
                (IntOp.andi
                  (IntOp.xori
                    (IntOp.cmpi CmpIPredicate.slt
                      (IntOp.remsi ArithUnit.vector (BitVec.ofNat 32 f.val)
                        (Scalar.select (Scalar.cmpi CmpIPredicate.eq 96#32 0#32) 1#32 96#32))
                      0#32)
                    (Scalar.cmpi CmpIPredicate.slt (Scalar.select (Scalar.cmpi CmpIPredicate.eq 96#32 0#32) 1#32 96#32)
                      0#32))
                  (IntOp.cmpi CmpIPredicate.ne
                    (IntOp.remsi ArithUnit.vector (BitVec.ofNat 32 f.val)
                      (Scalar.select (Scalar.cmpi CmpIPredicate.eq 96#32 0#32) 1#32 96#32))
                    0#32))
                (IntOp.addi
                  (IntOp.remsi ArithUnit.vector (BitVec.ofNat 32 f.val)
                    (Scalar.select (Scalar.cmpi CmpIPredicate.eq 96#32 0#32) 1#32 96#32))
                  (Scalar.select (Scalar.cmpi CmpIPredicate.eq 96#32 0#32) 1#32 96#32))
                (IntOp.remsi ArithUnit.vector (BitVec.ofNat 32 f.val)
                  (Scalar.select (Scalar.cmpi CmpIPredicate.eq 96#32 0#32) 1#32 96#32)))
              9#32)
            (Scalar.select
              (IntOp.andi
                (IntOp.cmpi CmpIPredicate.ne
                  (IntOp.subi (BitVec.setWidth 32 (IntOp.cmpi CmpIPredicate.sgt (BitVec.ofNat 32 f.val) 0#32))
                    (BitVec.setWidth 32 (IntOp.cmpi CmpIPredicate.slt (BitVec.ofNat 32 f.val) 0#32)))
                  (Scalar.subi (Scalar.extui (Scalar.cmpi CmpIPredicate.sgt 96#32 0#32))
                    (Scalar.extui (Scalar.cmpi CmpIPredicate.slt 96#32 0#32))))
                (IntOp.cmpi CmpIPredicate.ne (IntOp.remsi ArithUnit.vector (BitVec.ofNat 32 f.val) 96#32) 0#32))
              (IntOp.subi (IntOp.divsi ArithUnit.vector (BitVec.ofNat 32 f.val) 96#32) 1#32)
              (IntOp.divsi ArithUnit.vector (BitVec.ofNat 32 f.val) 96#32)))
    = BitVec.ofNat 32 (f.val % 96 * 9 + f.val / 96) := by decide +kernel

/-- What the body stores in its scratch: row `tap * 96 + channel` is row `channel * 9 + tap` of the quantised weights. -/
theorem ordered_at (q : FVec Ideal S864x96 .f32) (f : Fin 864) (o : Fin 96) :
   k0_pay13 (F := Ideal) (iota .tc S864x864 32 [0] iota_S864x864_d0_w32) (iota .tc S864x864 32 [1] iota_S864x864_d1_w32) q
      (Scalar.select (Scalar.cmpi .eq 96#32 0#32) 1#32 96#32) (k0_pay9 (iota .tc S864x864 32 [0] iota_S864x864_d0_w32))
      (k0_pay10 (iota .tc S864x864 32 [0] iota_S864x864_d0_w32)) (k0_pay11 (iota .tc S864x864 32 [0] iota_S864x864_d0_w32)) k0_pay12 (ix2 f o)
    = q (ix2 (⟨f.val % 96 * 9 + f.val / 96, by omega⟩ : Fin 864) o) := by
  rw [← Spec.sum_pick (fun x => q (ix2 x o)) (⟨f.val % 96 * 9 + f.val / 96, by omega⟩ : Fin 864)]
  have hs : ∀ (x : Fin 864) (u v : EReal), Scalar.select (IntOp.cmpi .eq (BitVec.ofNat 32 x.val) (BitVec.ofNat 32 (f.val % 96 * 9 + f.val / 96))) u v
      = if x.val = f.val % 96 * 9 + f.val / 96 then u else v := fun x u v => Spec.select_eq _ _ (by omega) (by omega) u v
  pointwise [k0_pay13, k0_pay9, k0_pay10, k0_pay11, k0_pay12]
  simp only [word_row, hs]

/-- The weight array the kernel keeps in its scratch: the quantised weights, reordered so that the 96 channels of each of
    the nine taps lie together. -/
def table (w : FVec Ideal S864x96 .f32) : FVec Ideal S864x96 .f32 :=
  k0_pay13 (iota .tc S864x864 32 [0] iota_S864x864_d0_w32) (iota .tc S864x864 32 [1] iota_S864x864_d1_w32)
    (k0_pay8 (k0_pay3 w) (k0_pay4 w) (iota .tc S864x864 32 [1] iota_S864x864_d1_w32) k0_pay5 4#32 k0_pay6 k0_pay7 0#32)
    96#32 (k0_pay9 (iota .tc S864x864 32 [0] iota_S864x864_d0_w32)) (k0_pay10 (iota .tc S864x864 32 [0] iota_S864x864_d0_w32))
    (k0_pay11 (iota .tc S864x864 32 [0] iota_S864x864_d0_w32)) k0_pay12

/-- Row `f` of that array is the quantised row `9 (f mod 96) + f / 96` of the weights. -/
theorem table_at (w : FVec Ideal S864x96 .f32) (f : Fin 864) (o : Fin 96) :
    table w (ix2 f o) = Spec.requant (Ideal.div (w (ix2 ⟨f.val % 96 * 9 + f.val / 96, by omega⟩ o)) (k0_pay3 (F := Ideal) w))
      (Ideal.div (∑ l : Fin 4, Ideal.div (w (ix2 ⟨(f.val % 96 * 9 + f.val / 96) / 4 * 4 + l.val, by omega⟩ o)) (k0_pay3 (F := Ideal) w)) (Ideal.ofBits .f32 0x40800000#32))
      (k0_pay3 (F := Ideal) w) := by
  have h := ordered_at (k0_pay8 (k0_pay3 (F := Ideal) w) (k0_pay4 w) (iota .tc S864x864 32 [1] iota_S864x864_d1_w32) k0_pay5 4#32 k0_pay6 k0_pay7 0#32) f o
  rw [quant_at] at h
  simp only [scaled_at] at h
  exact h

end Cert.KernelIdeal.Quant

end
-- ==== Proof.Body.lean ====
/- What the kernel's body stores at one grid point, read element by element. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen

/-- One of the nine products: row `i` of the block's image against the 96 rows of the weight array from row `j`, at
    output channel `o`. -/
def dot (x : FVec Ideal S1x3488x96 .f32) (q : FVec Ideal S864x96 .f32) (i j : ℕ) (hi : i < 3488) (hj : j + 96 ≤ 864) (o : Fin 96) : EReal :=
  ∑ c : Fin 96, x (ix3 0 ⟨i, hi⟩ c) * q (ix2 ⟨j + c.val, by omega⟩ o)

/-- What the block holds at padded pixel `p` and channel `o`: the nine products, whose image rows start at `p` shifted
    by 0, 1, 2, 58, 59, 60, 116, 117, 118 (three rows of 58 pixels, three pixels of each), and the bias. -/
def point (x : FVec Ideal S1x3488x96 .f32) (q : FVec Ideal S864x96 .f32) (b : FVec Ideal S1x96 .f32) (p : Fin 3364) (o : Fin 96) : EReal :=
  dot x q p.val 0 (by omega) (by omega) o + dot x q (1 + p.val) 96 (by omega) (by omega) o
    + dot x q (2 + p.val) 192 (by omega) (by omega) o + dot x q (58 + p.val) 288 (by omega) (by omega) o
    + dot x q (59 + p.val) 384 (by omega) (by omega) o + dot x q (60 + p.val) 480 (by omega) (by omega) o
    + dot x q (116 + p.val) 576 (by omega) (by omega) o + dot x q (117 + p.val) 672 (by omega) (by omega) o
    + dot x q (118 + p.val) 768 (by omega) (by omega) o + b (ix2 0 o)

/-- The body's stored value, given the nine 96 × 96 tables it multiplies by. -/
theorem body_at (x : FVec Ideal S1x3488x96 .f32) (q0 q1 q2 q3 q4 q5 q6 q7 q8 : FVec Ideal S96x96 .f32) (b : FVec Ideal S1x96 .f32) (p : Fin 3364) (o : Fin 96) :
    k0_pay1 (F := Ideal) (k0_pay14 x) (k0_pay15 x q0 q1 q2 q3 q4 q5) (k0_pay16 x) q6 q7 q8 b (ix3 0 p o)
      = ∑ c : Fin 96, x (ix3 0 ⟨p.val, by omega⟩ c) * q0 (ix2 c o) + ∑ c : Fin 96, x (ix3 0 ⟨1 + p.val, by omega⟩ c) * q1 (ix2 c o)
        + ∑ c : Fin 96, x (ix3 0 ⟨2 + p.val, by omega⟩ c) * q2 (ix2 c o) + ∑ c : Fin 96, x (ix3 0 ⟨58 + p.val, by omega⟩ c) * q3 (ix2 c o)
        + ∑ c : Fin 96, x (ix3 0 ⟨59 + p.val, by omega⟩ c) * q4 (ix2 c o) + ∑ c : Fin 96, x (ix3 0 ⟨60 + p.val, by omega⟩ c) * q5 (ix2 c o)
        + ∑ c : Fin 96, x (ix3 0 ⟨116 + p.val, by omega⟩ c) * q6 (ix2 c o) + ∑ c : Fin 96, x (ix3 0 ⟨117 + p.val, by omega⟩ c) * q7 (ix2 c o)
        + ∑ c : Fin 96, x (ix3 0 ⟨118 + p.val, by omega⟩ c) * q8 (ix2 c o) + b (ix2 0 o) := by
  pointwise [k0_pay1, k0_pay14, k0_pay15, k0_pay16]

/-- The same when table `k` is rows `96 k` to `96 k + 95` of one weight array `q`. -/
theorem body_point (x : FVec Ideal S1x3488x96 .f32) (q0 q1 q2 q3 q4 q5 q6 q7 q8 : FVec Ideal S96x96 .f32) (b : FVec Ideal S1x96 .f32)
    (q : FVec Ideal S864x96 .f32)
    (h0 : ∀ c o : Fin 96, q0 (ix2 c o) = q (ix2 ⟨0 + c.val, by omega⟩ o)) (h1 : ∀ c o : Fin 96, q1 (ix2 c o) = q (ix2 ⟨96 + c.val, by omega⟩ o))
    (h2 : ∀ c o : Fin 96, q2 (ix2 c o) = q (ix2 ⟨192 + c.val, by omega⟩ o)) (h3 : ∀ c o : Fin 96, q3 (ix2 c o) = q (ix2 ⟨288 + c.val, by omega⟩ o))
    (h4 : ∀ c o : Fin 96, q4 (ix2 c o) = q (ix2 ⟨384 + c.val, by omega⟩ o)) (h5 : ∀ c o : Fin 96, q5 (ix2 c o) = q (ix2 ⟨480 + c.val, by omega⟩ o))
    (h6 : ∀ c o : Fin 96, q6 (ix2 c o) = q (ix2 ⟨576 + c.val, by omega⟩ o)) (h7 : ∀ c o : Fin 96, q7 (ix2 c o) = q (ix2 ⟨672 + c.val, by omega⟩ o))
    (h8 : ∀ c o : Fin 96, q8 (ix2 c o) = q (ix2 ⟨768 + c.val, by omega⟩ o)) (p : Fin 3364) (o : Fin 96) :
    k0_pay1 (F := Ideal) (k0_pay14 x) (k0_pay15 x q0 q1 q2 q3 q4 q5) (k0_pay16 x) q6 q7 q8 b (ix3 0 p o) = point x q b p o := by
  rw [body_at]
  simp only [h0, h1, h2, h3, h4, h5, h6, h7, h8]
  rfl

end Cert.KernelIdeal.Body

end
-- ==== Proof.Array.lean ====
/- The pipeline's output array: every grid point's block from the image's rows and the quantised weights. -/
module

public import proofs.«01_k».proof.Proof.Gen.KernelIdeal.Frame
public import proofs.«01_k».proof.Proof.Quant
public import proofs.«01_k».proof.Proof.Body
public import Idealize.ShloMosaic.Lib.Claim
public import Idealize.ShloMosaic.Lib.Pipeline.ValueKit
public import Idealize.ShloMosaic.Lib.Pipeline.ReadBack

@[expose] public section

set_option maxRecDepth 16384

noncomputable section

namespace Cert.KernelIdeal.Array

open Idealize.ShloMosaic Idealize.ShloMosaic.TcCoe Idealize.SL.Sem
open Cert.KernelIdeal Cert.KernelIdeal.Gen

variable (m : (ℓ : Loc nD τ sig) → Buf (Elt Ideal) ℓ)

/-- Which block each window takes at a grid point: the image its own batch entry, the weights and the bias the whole. -/
theorem idx : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

/-- The weights' block at every grid point is the whole weight array. -/
theorem weights_blk (c : Dev nD) (t : Fin cfg0.N) : (iblk m c 1 t : FVec Ideal S864x96 .f32) = V m c main_call0_v5 := by
  funext y
  blk_ext [iblk, idx t]

/-- The bias's block at every grid point is the whole bias array. -/
theorem bias_blk (c : Dev nD) (t : Fin cfg0.N) : (iblk m c 2 t : FVec Ideal S1x96 .f32) = V m c main_call0_v6 := by
  funext y
  blk_ext [iblk, idx t]

/-- The image's block at grid point `t` is batch entry `t` of the padded image. -/
theorem image_blk (c : Dev nD) (t : Fin cfg0.N) :
    (iblk m c 0 t : FVec Ideal S1x3488x96 .f32) = fun y => V m c main_call0_v3 (ix3 (⟨t.val, t.isLt⟩ : Fin 4) (y 1) (y 2)) := by
  funext y
  blk_ext [iblk, idx t]

/-- At the first grid point the body leaves the quantised weights in its scratch. -/
theorem scratch_first (c : Dev nD) (t : Fin cfg0.N) (h : t.val % 4 = 0) :
    (outsAt0 m c t.val t.isLt).2 = Quant.table (V m c main_call0_v5) := by
  rw [outsAt0_A m c t h]
  frame_out
  rw [weights_blk]
  rfl

/-- At a later grid point the body leaves its scratch as it found it. -/
theorem scratch_next (c : Dev nD) (t : Fin cfg0.N) (h : ¬ t.val % 4 = 0) :
    (outsAt0 m c t.val t.isLt).2 = (outsAt0 m c (t.val - 1) (by omega)).2 := by
  rw [outsAt0_B m c t h]
  dsimp only [sout0_B_0]

/-- So the scratch holds the quantised weights after every grid point. -/
theorem scratch (c : Dev nD) (n : ℕ) : ∀ hn : n < cfg0.N, (outsAt0 m c n hn).2 = Quant.table (V m c main_call0_v5) := by
  induction n with
  | zero => exact fun hn => scratch_first m c ⟨0, hn⟩ rfl
  | succ n ih =>
    intro hn
    by_cases h : (n + 1) % 4 = 0
    · exact scratch_first m c ⟨n + 1, hn⟩ h
    · rw [scratch_next m c ⟨n + 1, hn⟩ h]
      exact ih _

/-- What the body stores at grid point `t`: the convolution's value at every padded pixel of batch entry `t`. -/
theorem out (c : Dev nD) (t : Fin cfg0.N) (p : Fin 3364) (o : Fin 96) :
    (outsAt0 m c t.val t.isLt).1 (ix3 0 p o)
      = Body.point (iblk m c 0 t) (Quant.table (V m c main_call0_v5)) (V m c main_call0_v6) p o := by
  by_cases h : t.val % 4 = 0
  · rw [outsAt0_A m c t h]
    frame_open
    simp (disch := decide) only [↓ View.readCov_skip, ↓ View.readCov_cons_toLoadRect, ↓ View.readCov_fill]
    frame_out
    rw [weights_blk, bias_blk]
    refine Body.body_point _ _ _ _ _ _ _ _ _ _ _ (Quant.table (V m c main_call0_v5)) ?_ ?_ ?_ ?_ ?_ ?_ ?_ ?_ ?_ p o <;> intro a b <;> unfold Quant.table <;> pointwise
  · rw [outsAt0_B m c t h]
    frame_out
    simp only [read_unread_whole, scratch]
    rw [bias_blk]
    refine Body.body_point _ _ _ _ _ _ _ _ _ _ _ (Quant.table (V m c main_call0_v5)) ?_ ?_ ?_ ?_ ?_ ?_ ?_ ?_ ?_ p o <;> intro a b <;> generalize Quant.table (V m c main_call0_v5) = q <;> pointwise

/-- The same at an index of the block. -/
theorem out_idx (c : Dev nD) (t : Fin cfg0.N) (y : S1x3364x96.Idx) :
    (outsAt0 m c t.val t.isLt).1 y
      = Body.point (iblk m c 0 t) (Quant.table (V m c main_call0_v5)) (V m c main_call0_v6) (y 1) (y 2) := by
  have hy : y = ix3 0 (y 1) (y 2) := by blk_ext
  rw [hy]
  exact out m c t (y 1) (y 2)

/-- The output array after the run: at batch entry `n`, padded pixel `p` and channel `o`, the convolution's value there. -/
theorem final (c : Dev nD) :
    (dats m 0 c).arrAt 3 cfg0.N = (fun i : S4x3364x96.Idx => Body.point (fun y => V m c main_call0_v3 (ix3 (i 0) (y 1) (y 2)))
      (Quant.table (V m c main_call0_v5)) (V m c main_call0_v6) (i 1) (i 2)) := by
  refine (dats m 0 c).arrAt_eq_of_covers 3 _ (by decide +kernel) fun t hf y => ?_
  blk_simp
  rw [after0_3]
  have h := out_idx m c t y
  rw [image_blk] at h
  refine h.trans ?_
  have e0 : (win0_3.blk t).view.emb y 0 = (⟨t.val, t.isLt⟩ : Fin 4) := by apply Fin.ext; blk_simp [idx t]; try omega
  have e1 : (win0_3.blk t).view.emb y 1 = (y 1 : Fin 3364) := by apply Fin.ext; blk_simp [idx t]
  have e2 : (win0_3.blk t).view.emb y 2 = (y 2 : Fin 96) := by apply Fin.ext; blk_simp [idx t]
  rw [e0, e1, e2]
  rfl

end Cert.KernelIdeal.Array

end
-- ==== Proof.Entry.lean ====
/- What the kernel's three operand arrays hold when its grid starts: the padded image, the weights and the bias, read
   element by element. -/
module

public import proofs.«01_k».proof.Proof.Gen.KernelIdeal.Frame
public import proofs.«01_k».proof.Proof.Spec
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Entry

open Idealize.ShloMosaic Idealize.ShloMosaic.TcCoe Idealize.SL.Sem
open Cert.KernelIdeal Cert.KernelIdeal.Gen

variable (m : (ℓ : Loc nD τ sig) → Buf (Elt Ideal) ℓ)

/-- The weight array: the weights as one row per output channel, transposed. -/
theorem weights_eq (c : Dev nD) : V m c main_call0_v5
    = transpose S864x96 [1, 0] (shapeCast S96x864 (m ((c : Thread nD τ).loc main_arg1)) shapeCasts_S96x96x3x3_S96x864) transposes_S96x864_S864x96_1_0 := by
  unfold V V0
  simp only [List.flatten_cons, List.flatten_nil, List.append_nil, StableHlo.TRef.unary, StableHlo.TRef.binary, StableHlo.TRef.nullary, StableHlo.TRef.reshape]
  after_results_simp
  rfl

/-- The bias array: the bias as one row. -/
theorem bias_eq (c : Dev nD) : V m c main_call0_v6 = shapeCast S1x96 (m ((c : Thread nD τ).loc main_arg2)) shapeCasts_S96_S1x96 := by
  unfold V V0
  simp only [List.flatten_cons, List.flatten_nil, List.append_nil, StableHlo.TRef.unary, StableHlo.TRef.binary, StableHlo.TRef.nullary, StableHlo.TRef.reshape]
  after_results_simp
  rfl

/-- The image array: channels last, a border of one zero around each image, rows and columns joined, 124 rows of zeros after. -/
theorem image_eq (c : Dev nD) : V m c main_call0_v3
    = pad S4x3488x96 ![0, 0, 0] ![0, 124, 0] ![0, 0, 0]
        (shapeCast S4x3364x96 (pad S4x58x58x96 ![0, 1, 1, 0] ![0, 1, 1, 0] ![0, 0, 0, 0]
          (transpose S4x56x56x96 [0, 2, 3, 1] (m ((c : Thread nD τ).loc main_arg0)) transposes_S4x96x56x56_S4x56x56x96_0_2_3_1)
          (sitofp (F := Ideal) .f32 (constantI S_ 32 0#32)) pads_S4x56x56x96_S4x58x58x96_000_110_110_000 h_S_) shapeCasts_S4x58x58x96_S4x3364x96)
        (sitofp (F := Ideal) .f32 (constantI S_ 32 0#32)) pads_S4x3364x96_S4x3488x96_000_01240_000 h_S_ := by
  unfold V V0
  simp only [List.flatten_cons, List.flatten_nil, List.append_nil, StableHlo.TRef.unary, StableHlo.TRef.binary, StableHlo.TRef.nullary, StableHlo.TRef.reshape]
  after_results_simp
  rfl

/-- The weight array at row `f` and output channel `o` is the weight of channel `o` at position `f` of its
    channel-row-column order. -/
theorem weights_at (c : Dev nD) (f : Fin 864) (o : Fin 96) :
    V m c main_call0_v5 (ix2 f o) = m ((c : Thread nD τ).loc main_arg1) (Spec.place f o) := by
  rw [weights_eq]
  generalize m ((c : Thread nD τ).loc main_arg1) = w
  pointwise [Spec.place]

/-- The bias row. -/
theorem bias_at (c : Dev nD) (o : Fin 96) :
    V m c main_call0_v6 (ix2 0 o) = m ((c : Thread nD τ).loc main_arg2) (ix1 o) := by
  rw [bias_eq]
  generalize m ((c : Thread nD τ).loc main_arg2) = w
  pointwise

/-- The image array at batch entry `n`, padded row `h`, padded column `w` and channel `k`: the image inside the border, zero on it. -/
theorem image_at (c : Dev nD) (n : Fin 4) (h w : Fin 58) (k : Fin 96) :
    V m c main_call0_v3 (ix3 n (⟨h.val * 58 + w.val, by omega⟩ : Fin 3488) k)
      = if hin : (1 ≤ h.val ∧ h.val - 1 < 56) ∧ 1 ≤ w.val ∧ w.val - 1 < 56 then
          m ((c : Thread nD τ).loc main_arg0) (ix4 n k (⟨h.val - 1, by omega⟩ : Fin 56) (⟨w.val - 1, by omega⟩ : Fin 56))
        else FloatOps.sitofp (F := Ideal) .f32 0#32 := by
  rw [image_eq]
  generalize m ((c : Thread nD τ).loc main_arg0) = x
  pointwise
  exact dif_pos (by omega)

end Cert.KernelIdeal.Entry

end
-- ==== Proof.Tail.lean ====
/- What the kernel's program returns: the pipeline's output array, cut to the rows and columns of the image and moved
   back to the channel-first layout by the host lines after the region. -/
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

noncomputable section

namespace Cert.KernelIdeal

open Idealize.ShloMosaic Idealize.SL.Sem
open Gen

variable (m : (ℓ : Loc nD τ sig) → Buf (Elt Ideal) ℓ)

/-- The returned array is the pipeline's output array reshaped to rows and columns, its last two rows and columns dropped,
    transposed to batch, channel, row, column. -/
theorem result_eq (c : Dev nD) :
    Pipeline.afterTail₀ cfgs (Gen.dats m) 0 (Gen.V0 m) [Gen.hostOps1] c main_v0
      = transpose S4x96x56x56 [0, 3, 1, 2]
          (extractStridedSlice S4x56x56x96 ![0, 0, 0, 0]
            (shapeCast S4x58x58x96 ((Gen.dats m 0 c).arrAt 3 cfg0.N) shapeCasts_S4x3364x96_S4x58x58x96)
            slices_S4x58x58x96_S4x56x56x96_0_0_0_0) transposes_S4x56x56x96_S4x96x56x56_0_3_1_2 := by
  have hA : Pipeline.withArrays (cfgs 0).spec c (Gen.V0 m c) (fun w => (Gen.dats m 0 c).arrAt w (cfgs 0).N)
      (Proc.tc.devRef main_call0_v7) = (Gen.dats m 0 c).arrAt 3 cfg0.N :=
    Pipeline.withArrays_arr spec0 (by decide) c (Gen.V0 m c) (fun w => (Gen.dats m 0 c).arrAt w cfg0.N) 3
  unfold Pipeline.afterTail₀
  simp only [List.flatten_cons, List.flatten_nil, List.append_nil, StableHlo.TRef.unary, StableHlo.TRef.reshape]
  after_results_simp
  rw [hA]
  generalize (Gen.dats m 0 c).arrAt 3 cfg0.N = a
  rfl

/-- A pixel's place among the padded image's pixels. -/
theorem pixel_lt (h w : Fin 56) : h.val * 58 + w.val < 3364 := by omega

/-- Read at batch entry `n`, channel `o`, row `h` and column `w`: the output array at that pixel of the padded image. -/
theorem result_at (a : FVec Ideal S4x3364x96 .f32) (n : Fin 4) (o : Fin 96) (h w : Fin 56) :
    transpose S4x96x56x56 [0, 3, 1, 2]
        (extractStridedSlice S4x56x56x96 ![0, 0, 0, 0] (shapeCast S4x58x58x96 a shapeCasts_S4x3364x96_S4x58x58x96)
          slices_S4x58x58x96_S4x56x56x96_0_0_0_0) transposes_S4x56x56x96_S4x96x56x56_0_3_1_2 (ix4 n o h w)
      = a (ix3 n ⟨h.val * 58 + w.val, pixel_lt h w⟩ o) := by
  pointwise

end Cert.KernelIdeal

end
-- ==== Proof.Ref.lean ====
/- The reference's result as a few named stages, and each stage read element by element. -/
module

public import proofs.«01_k».proof.Proof.Gen.ReferenceIdeal.Run
public import proofs.«01_k».proof.Proof.Spec
public import Idealize.ShloMosaic.Lib.Pipeline.ValueKit
public import Idealize.ShloMosaic.Lib.Pointwise

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen

/-- The quantisation step: a third of the largest absolute weight. -/
def step (w : FVec Ideal S96x96x3x3 .f32) : FVec Ideal S_ .f32 :=
  Host.divf (Host.reduce FloatOps.maximumf (Host.absf w) (constant S_ .f32 0xFF800000#32) reducesTo_S96x96x3x3_S_d0_1_2_3 h_S_)
    (constant S_ .f32 0x40400000#32)

/-- The weights in units of the step, one row per output channel. -/
def scaled (w : FVec Ideal S96x96x3x3 .f32) : FVec Ideal S96x864 .f32 :=
  shapeCast S96x864 (Host.divf w (broadcastInDim S96x96x3x3 ![] bcast_S_S96x96x3x3 (step w))) shapeCasts_S96x96x3x3_S96x864

/-- Values clipped to between -1.5 and 1.5 and rounded to the nearest integer, ties to even. -/
def snap (v : FVec Ideal S96x864 .f32) : FVec Ideal S96x864 .f32 :=
  Host.roundeven (minimumf (broadcastInDim S96x864 ![] bcast_S_S96x864 (constant S_ .f32 0x3FC00000#32))
    (maximumf (broadcastInDim S96x864 ![] bcast_S_S96x864 (constant S_ .f32 0xBFC00000#32)) v))

/-- The mean of each group of four consecutive entries of a row, at each of the four. -/
def means (v : FVec Ideal S96x864 .f32) : FVec Ideal S96x864 .f32 :=
  shapeCast S96x864 (broadcastInDim S96x216x4 ![0, 1, 2] bcast_S96x216x1_S96x216x4_0_1_2
    (Host.divf (broadcastInDim S96x216x1 ![0, 1] bcast_S96x216_S96x216x1_0_1
        (Host.reduceAdd (shapeCast S96x216x4 v shapeCasts_S96x864_S96x216x4) (constant S_ .f32 0x00000000#32) reducesTo_S96x216x4_S96x216_d2 h_S_))
      (broadcastInDim S96x216x1 ![] bcast_S_S96x216x1 (constant S_ .f32 0x40800000#32)))) shapeCasts_S96x216x4_S96x864

/-- The quantised weights, by output channel, input channel, kernel row and kernel column: each group's mean snapped, plus
    what is left of the weight snapped, times the step. -/
def quantised (w : FVec Ideal S96x96x3x3 .f32) : FVec Ideal S96x96x3x3 .f32 :=
  shapeCast S96x96x3x3 (mulf (addf (snap (subf (scaled w) (snap (means (scaled w))))) (snap (means (scaled w))))
    (broadcastInDim S96x864 ![] bcast_S_S96x864 (step w))) shapeCasts_S96x864_S96x96x3x3

/-- The image with a border of one zero on each side of its rows and columns. -/
def padded (x : FVec Ideal S4x96x56x56 .f32) : FVec Ideal S4x96x58x58 .f32 :=
  pad S4x96x58x58 ![0, 0, 1, 1] ![0, 0, 1, 1] ![0, 0, 0, 0] x (sitofp .f32 (constantI S_ 32 0#32)) pads_S4x96x56x56_S4x96x58x58_000_000_110_110 h_S_

/-- One tap of the convolution: the padded image shifted by `i` rows and `j` columns, against the weights of that tap. -/
def tap (q : FVec Ideal S96x96x3x3 .f32) (xp : FVec Ideal S4x96x58x58 .f32) (i j : Nat)
    (hx : S4x96x58x58.Slices ![0, 0, i, j] S4x96x56x56) (hq : S96x96x3x3.Slices ![0, 0, i, j] S96x96x1x1) : FVec Ideal S4x96x56x56 .f32 :=
  transpose S4x96x56x56 [1, 0, 2, 3] (Host.dotGeneral dot_S96x96_S4x96x56x56_S96x4x56x56_1_1_0_023_n_n (some .fp32)
    (shapeCast S96x96 (extractStridedSlice S96x96x1x1 ![0, 0, i, j] q hq) shapeCasts_S96x96x1x1_S96x96)
    (extractStridedSlice S4x96x56x56 ![0, 0, i, j] xp hx)) transposes_S96x4x56x56_S4x96x56x56_1_0_2_3

/-- The convolution: the nine taps added up from zero, then the bias. -/
def conv (q : FVec Ideal S96x96x3x3 .f32) (xp : FVec Ideal S4x96x58x58 .f32) (b : FVec Ideal S96 .f32) : FVec Ideal S4x96x56x56 .f32 :=
  addf (addf (addf (addf (addf (addf (addf (addf (addf (addf
    (broadcastInDim S4x96x56x56 ![] bcast_S_S4x96x56x56 (constant S_ .f32 0x00000000#32))
    (tap q xp 0 0 slices_S4x96x58x58_S4x96x56x56_0_0_0_0 slices_S96x96x3x3_S96x96x1x1_0_0_0_0))
    (tap q xp 0 1 slices_S4x96x58x58_S4x96x56x56_0_0_0_1 slices_S96x96x3x3_S96x96x1x1_0_0_0_1))
    (tap q xp 0 2 slices_S4x96x58x58_S4x96x56x56_0_0_0_2 slices_S96x96x3x3_S96x96x1x1_0_0_0_2))
    (tap q xp 1 0 slices_S4x96x58x58_S4x96x56x56_0_0_1_0 slices_S96x96x3x3_S96x96x1x1_0_0_1_0))
    (tap q xp 1 1 slices_S4x96x58x58_S4x96x56x56_0_0_1_1 slices_S96x96x3x3_S96x96x1x1_0_0_1_1))
    (tap q xp 1 2 slices_S4x96x58x58_S4x96x56x56_0_0_1_2 slices_S96x96x3x3_S96x96x1x1_0_0_1_2))
    (tap q xp 2 0 slices_S4x96x58x58_S4x96x56x56_0_0_2_0 slices_S96x96x3x3_S96x96x1x1_0_0_2_0))
    (tap q xp 2 1 slices_S4x96x58x58_S4x96x56x56_0_0_2_1 slices_S96x96x3x3_S96x96x1x1_0_0_2_1))
    (tap q xp 2 2 slices_S4x96x58x58_S4x96x56x56_0_0_2_2 slices_S96x96x3x3_S96x96x1x1_0_0_2_2))
    (broadcastInDim S4x96x56x56 ![0, 1, 2, 3] bcast_S1x96x1x1_S4x96x56x56_0_1_2_3 (broadcastInDim S1x96x1x1 ![1] bcast_S96_S1x96x1x1_1 b))

/-- The reference's result is the convolution of the padded image with the quantised weights. -/
theorem result_eq (m : (ℓ : Loc nD τ sig) → Buf (Elt Ideal) ℓ) (c : Dev nD) :
    Value.res_out0 m c = conv (quantised (m ((c.tc : Thread nD τ).loc main_arg1))) (padded (m ((c.tc : Thread nD τ).loc main_arg0)))
      (m ((c.tc : Thread nD τ).loc main_arg2)) := by
  unfold Value.res_out0 Value.res_main_v80
  rfl

/-- The step is a third of the largest absolute weight. -/
theorem step_at (w : FVec Ideal S96x96x3x3 .f32) (j : S_.Idx) :
    step w j = Ideal.div (Finset.univ.fold max (Ideal.ofBits .f32 0xFF800000#32)
      (fun i : S96x96x3x3.Idx => FloatOps.absf (F := Ideal) (φ := .f32) (w i))) (Ideal.ofBits .f32 0x40400000#32) := by
  pointwise [step]
  rw [Finset.filter_true_of_mem fun i _ => funext fun a : Fin 0 => a.elim0]

/-- The weights in units of the step: row `o` holds channel `f / 9`'s three by three taps at `f`. -/
theorem scaled_at (w : FVec Ideal S96x96x3x3 .f32) (o : Fin 96) (f : Fin 864) :
    scaled w (ix2 o f) = Ideal.div (w (Spec.place f o)) (step w ix0) := by
  pointwise [scaled, Spec.place]

/-- A group's mean, at each of its four entries. -/
theorem means_at (v : FVec Ideal S96x864 .f32) (o : Fin 96) (f : Fin 864) :
    means v (ix2 o f) = Ideal.div (∑ l : Fin 4, v (ix2 o (⟨f.val / 4 * 4 + l.val, by omega⟩ : Fin 864))) (Ideal.ofBits .f32 0x40800000#32) := by
  pointwise [means]

/-- Clipping and rounding, element by element. -/
theorem snap_at (v : FVec Ideal S96x864 .f32) (i : S96x864.Idx) : snap v i = Spec.snap (v i) := by
  pointwise [snap, Spec.snap]

/-- A quantised weight, from the scaled weights of its group. -/
theorem quantised_at (w : FVec Ideal S96x96x3x3 .f32) (f : Fin 864) (o : Fin 96) :
    quantised w (Spec.place f o) = Spec.requant (Ideal.div (w (Spec.place f o)) (step w ix0))
      (Ideal.div (∑ l : Fin 4, Ideal.div (w (Spec.place (⟨f.val / 4 * 4 + l.val, by omega⟩ : Fin 864) o)) (step w ix0)) (Ideal.ofBits .f32 0x40800000#32))
      (step w ix0) := by
  simp only [← scaled_at, ← means_at]
  pointwise [quantised, Spec.place, Spec.requant, snap_at]

/-- A tap at an output element: the sum over the input channels. -/
theorem tap_at (q : FVec Ideal S96x96x3x3 .f32) (xp : FVec Ideal S4x96x58x58 .f32) (i j : Nat) (hi : i < 3) (hj : j < 3)
    (hx : S4x96x58x58.Slices ![0, 0, i, j] S4x96x56x56) (hq : S96x96x3x3.Slices ![0, 0, i, j] S96x96x1x1)
    (n : Fin 4) (o : Fin 96) (h w : Fin 56) :
    tap q xp i j hx hq (ix4 n o h w)
      = ∑ c : Fin 96, q (ix4 o c (⟨i, hi⟩ : Fin 3) (⟨j, hj⟩ : Fin 3)) * xp (ix4 n c (⟨i + h.val, by omega⟩ : Fin 58) (⟨j + w.val, by omega⟩ : Fin 58)) := by
  pointwise [tap]

/-- The padded image at a place of the border or inside it. -/
theorem padded_at (x : FVec Ideal S4x96x56x56 .f32) (n : Fin 4) (c : Fin 96) (h w : Fin 58) :
    padded x (ix4 n c h w) = if hin : (1 ≤ h.val ∧ h.val - 1 < 56) ∧ 1 ≤ w.val ∧ w.val - 1 < 56
      then x (ix4 n c (⟨h.val - 1, hin.1.2⟩ : Fin 56) (⟨w.val - 1, hin.2.2⟩ : Fin 56))
      else FloatOps.sitofp (F := Ideal) .f32 0#32 := by
  pointwise [padded]

/-- One tap at one output element: the sum over input channels of the padded image, shifted by the tap, times the tap's weight. -/
def dot (q : FVec Ideal S96x96x3x3 .f32) (xp : FVec Ideal S4x96x58x58 .f32) (i j : Fin 3) (n : Fin 4) (o : Fin 96) (h w : Fin 56) : EReal :=
  ∑ c : Fin 96, q (ix4 o c i j) * xp (ix4 n c ⟨i.val + h.val, by omega⟩ ⟨j.val + w.val, by omega⟩)

/-- The convolution at one output element: the nine taps and the bias. -/
theorem conv_at (q : FVec Ideal S96x96x3x3 .f32) (xp : FVec Ideal S4x96x58x58 .f32) (b : FVec Ideal S96 .f32)
    (n : Fin 4) (o : Fin 96) (h w : Fin 56) :
    conv q xp b (ix4 n o h w) = dot q xp 0 0 n o h w + dot q xp 0 1 n o h w + dot q xp 0 2 n o h w + dot q xp 1 0 n o h w + dot q xp 1 1 n o h w
      + dot q xp 1 2 n o h w + dot q xp 2 0 n o h w + dot q xp 2 1 n o h w + dot q xp 2 2 n o h w + b (ix1 o) := by
  pointwise [conv]
  simp (disch := omega) only [tap_at]
  rfl

end Cert.ReferenceIdeal.Ref

end
-- ==== Proof.Equation.lean ====
/- The equation: the kernel's result array is the reference's, element by element. -/
module

public import proofs.«01_k».proof.Proof.Array
public import proofs.«01_k».proof.Proof.Entry
public import proofs.«01_k».proof.Proof.Tail
public import proofs.«01_k».proof.Proof.Ref

@[expose] public section

set_option maxRecDepth 16384

noncomputable section

namespace Cert.Equation

open Idealize.ShloMosaic Idealize.ShloMosaic.TcCoe Idealize.SL.Sem
open Cert.KernelIdeal Cert.KernelIdeal.Gen

variable (m : (ℓ : Loc nD τ sig) → Buf (Elt Ideal) ℓ)

/-- The kernel's first argument on device `c`: the image. -/
abbrev image (c : Dev nD) : FVec Ideal S4x96x56x56 .f32 := m ((c : Thread nD τ).loc main_arg0)
/-- Its second: the weights. -/
abbrev weights (c : Dev nD) : FVec Ideal S96x96x3x3 .f32 := m ((c : Thread nD τ).loc main_arg1)
/-- Its third: the bias. -/
abbrev bias (c : Dev nD) : FVec Ideal S96 .f32 := m ((c : Thread nD τ).loc main_arg2)

/-- The kernel's weight array is the weights, a row per position and a column per output channel. -/
theorem weights_eq (c : Dev nD) : (V m c main_call0_v5 : FVec Ideal S864x96 .f32) = fun y => weights m c (Spec.place (y 0) (y 1)) := by
  funext y
  have hy : y = ix2 (y 0) (y 1) := by blk_ext
  rw [hy]
  exact KernelIdeal.Entry.weights_at m c (y 0) (y 1)

/-- Both programs take the same quantisation step: the largest magnitude is over the same weights, listed in another order. -/
theorem step_eq (c : Dev nD) :
    k0_pay3 (F := Ideal) (V m c main_call0_v5) = ReferenceIdeal.Ref.step (weights m c) ix0 := by
  rw [KernelIdeal.Quant.step_at, ReferenceIdeal.Ref.step_at, weights_eq]
  exact congrArg (fun e => Ideal.div e _) (Spec.fold_place _ (fun i => FloatOps.absf (F := Ideal) (φ := .f32) (weights m c i)))

/-- The kernel's table of quantised weights holds the reference's, in the order tap, input channel. -/
theorem table_eq (c : Dev nD) (f : Fin 864) (o : Fin 96) :
    KernelIdeal.Quant.table (V m c main_call0_v5) (ix2 f o)
      = ReferenceIdeal.Ref.quantised (weights m c) (Spec.place ⟨f.val % 96 * 9 + f.val / 96, by omega⟩ o) := by
  rw [KernelIdeal.Quant.table_at, ReferenceIdeal.Ref.quantised_at, step_eq, weights_eq]
  rfl

/-- The same, by tap and channel. -/
theorem table_tap (c : Dev nD) (i j : Fin 3) (k o : Fin 96) :
    KernelIdeal.Quant.table (V m c main_call0_v5) (ix2 ⟨96 * (3 * i.val + j.val) + k.val, by omega⟩ o)
      = ReferenceIdeal.Ref.quantised (weights m c) (ix4 o k i j) := by
  have e1 : (96 * (3 * i.val + j.val) + k.val) % 96 = k.val := by omega
  have e2 : (96 * (3 * i.val + j.val) + k.val) / 96 = 3 * i.val + j.val := by omega
  have ek : (⟨(k.val * 9 + (3 * i.val + j.val)) / 9, by omega⟩ : Fin 96) = k := Fin.ext (by dsimp only; omega)
  have ei : (⟨(k.val * 9 + (3 * i.val + j.val)) / 3 % 3, by omega⟩ : Fin 3) = i := Fin.ext (by dsimp only; omega)
  have ej : (⟨(k.val * 9 + (3 * i.val + j.val)) % 3, by omega⟩ : Fin 3) = j := Fin.ext (by dsimp only; omega)
  rw [table_eq]
  refine congrArg _ ?_
  unfold Spec.place
  simp only [e1, e2, ek, ei, ej]

/-- The kernel's image array at the pixel of padded row `h` and padded column `w` holds the reference's padded image. -/
theorem image_eq (c : Dev nD) (n : Fin 4) (h w : Fin 58) (k : Fin 96) :
    V m c main_call0_v3 (ix3 n (⟨h.val * 58 + w.val, by omega⟩ : Fin 3488) k) = ReferenceIdeal.Ref.padded (image m c) (ix4 n k h w) := by
  rw [KernelIdeal.Entry.image_at, ReferenceIdeal.Ref.padded_at]

/-- One of the kernel's nine products is one of the reference's nine taps. -/
theorem dot_eq (c : Dev nD) (i j : Fin 3) (n : Fin 4) (o : Fin 96) (h w : Fin 56) (r s : ℕ) (hr : r < 3488) (hs : s + 96 ≤ 864)
    (er : r = (i.val + h.val) * 58 + (j.val + w.val)) (es : s = 96 * (3 * i.val + j.val)) :
    KernelIdeal.Body.dot (fun y => V m c main_call0_v3 (ix3 n (y 1) (y 2))) (KernelIdeal.Quant.table (V m c main_call0_v5)) r s hr hs o
      = ReferenceIdeal.Ref.dot (ReferenceIdeal.Ref.quantised (weights m c)) (ReferenceIdeal.Ref.padded (image m c)) i j n o h w := by
  subst er es
  unfold KernelIdeal.Body.dot ReferenceIdeal.Ref.dot
  refine Finset.sum_congr rfl fun k _ => ?_
  rw [table_tap, mul_comm]
  exact congrArg _ (image_eq m c n ⟨i.val + h.val, by omega⟩ ⟨j.val + w.val, by omega⟩ k)

/-- Sums of ten equal terms are equal. -/
theorem add_ten {a0 a1 a2 a3 a4 a5 a6 a7 a8 a9 b0 b1 b2 b3 b4 b5 b6 b7 b8 b9 : EReal} (h0 : a0 = b0) (h1 : a1 = b1) (h2 : a2 = b2) (h3 : a3 = b3)
    (h4 : a4 = b4) (h5 : a5 = b5) (h6 : a6 = b6) (h7 : a7 = b7) (h8 : a8 = b8) (h9 : a9 = b9) :
    a0 + a1 + a2 + a3 + a4 + a5 + a6 + a7 + a8 + a9 = b0 + b1 + b2 + b3 + b4 + b5 + b6 + b7 + b8 + b9 := by
  rw [h0, h1, h2, h3, h4, h5, h6, h7, h8, h9]

/-- What the kernel's output array holds at the pixel of row `h` and column `w` is the reference's convolution there. -/
theorem point_eq (c : Dev nD) (n : Fin 4) (o : Fin 96) (h w : Fin 56) :
    KernelIdeal.Body.point (fun y => V m c main_call0_v3 (ix3 n (y 1) (y 2))) (KernelIdeal.Quant.table (V m c main_call0_v5)) (V m c main_call0_v6)
        ⟨h.val * 58 + w.val, pixel_lt h w⟩ o
      = ReferenceIdeal.Ref.conv (ReferenceIdeal.Ref.quantised (weights m c)) (ReferenceIdeal.Ref.padded (image m c)) (bias m c) (ix4 n o h w) := by
  rw [ReferenceIdeal.Ref.conv_at]
  refine add_ten (dot_eq m c 0 0 n o h w _ _ _ _ ?_ rfl) (dot_eq m c 0 1 n o h w _ _ _ _ ?_ rfl) (dot_eq m c 0 2 n o h w _ _ _ _ ?_ rfl)
    (dot_eq m c 1 0 n o h w _ _ _ _ ?_ rfl) (dot_eq m c 1 1 n o h w _ _ _ _ ?_ rfl) (dot_eq m c 1 2 n o h w _ _ _ _ ?_ rfl)
    (dot_eq m c 2 0 n o h w _ _ _ _ ?_ rfl) (dot_eq m c 2 1 n o h w _ _ _ _ ?_ rfl) (dot_eq m c 2 2 n o h w _ _ _ _ ?_ rfl)
    (KernelIdeal.Entry.bias_at m c o) <;> simp only [Fin.isValue, Fin.val_zero, Fin.val_one, Fin.val_two] <;> omega

/-- The kernel's returned array is the reference's convolution of its arguments. -/
theorem result_eq (c : Dev nD) :
    Pipeline.afterTail₀ cfgs (Gen.dats m) 0 (Gen.V0 m) [Gen.hostOps1] c main_v0
      = ReferenceIdeal.Ref.conv (ReferenceIdeal.Ref.quantised (weights m c)) (ReferenceIdeal.Ref.padded (image m c)) (bias m c) := by
  rw [KernelIdeal.result_eq]
  funext i
  obtain ⟨n, o, h, w, rfl⟩ : ∃ (n : Fin 4) (o : Fin 96) (h w : Fin 56), i = ix4 n o h w := ⟨i 0, i 1, i 2, i 3, by blk_ext⟩
  exact (KernelIdeal.result_at _ n o h w).trans
    ((congrFun (KernelIdeal.Array.final m c) (ix3 n ⟨h.val * 58 + w.val, pixel_lt h w⟩ o)).trans (point_eq m c n o h w))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference ends with its arguments as they were and every semaphore counter at zero. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- From equal arguments the idealized kernel and the reference return equal arrays. -/
theorem algebraic : Cert.algebraic_KernelIdeal_ReferenceIdeal := by
  pair_intro
  · run_from Cert.KernelIdeal.Gen.run_main m g & Cert.KernelIdeal.Gen.unchanged m g
  · run_from Cert.ReferenceIdeal.Value.run m' g'
    obtain ⟨h0, h1, h2⟩ := hagree c
    refine (Cert.ReferenceIdeal.Ref.result_eq m' c).trans ?_
    rw [h0, h1, h2]
    exact (Cert.Equation.result_eq m c).symm

/-- The five claims together, after the programs' stated facts. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_ref, trivial, algebraic⟩

end Cert.Proof

end
